-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "inv_ranks" .f32 0x3E2AAAAB#32 ((1 / 6 : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S6x1280x7168 : Shape := ⟨3, ![6, 1280, 7168]⟩
abbrev S6x1280x56 : Shape := ⟨3, ![6, 1280, 56]⟩
abbrev S1280x7168 : Shape := ⟨2, ![1280, 7168]⟩
abbrev S1280x56 : Shape := ⟨2, ![1280, 56]⟩
abbrev S6x32x7168 : Shape := ⟨3, ![6, 32, 7168]⟩
abbrev S6x32x56 : Shape := ⟨3, ![6, 32, 56]⟩
abbrev S32x7168 : Shape := ⟨2, ![32, 7168]⟩
abbrev S32x56 : Shape := ⟨2, ![32, 56]⟩
abbrev S1x32x128 : Shape := ⟨3, ![1, 32, 128]⟩
abbrev S32x128 : Shape := ⟨2, ![32, 128]⟩
abbrev S1x32x1 : Shape := ⟨3, ![1, 32, 1]⟩
abbrev S32x1 : Shape := ⟨2, ![32, 1]⟩
abbrev S32 : Shape := ⟨1, ![32]⟩
abbrev S32x256 : Shape := ⟨2, ![32, 256]⟩

abbrev nBuf : Space → Nat
  | .hbm => 13
  | .vmem => 26
  | .smem => 0
  | _ => 0

abbrev bufTy : (tb : Table) → Fin (tcTables nBuf tb) → BufTy
  | .hbm, ⟨0, _⟩ => ⟨S6x1280x7168, .fp8e5m2⟩
  | .hbm, ⟨1, _⟩ => ⟨S6x1280x56, .f32⟩
  | .hbm, ⟨2, _⟩ => ⟨S1280x7168, .bf16⟩
  | .hbm, ⟨3, _⟩ => ⟨S1280x7168, .bf16⟩
  | .hbm, ⟨4, _⟩ => ⟨S1280x7168, .f32⟩
  | .hbm, ⟨5, _⟩ => ⟨S1280x7168, .f32⟩
  | .hbm, ⟨6, _⟩ => ⟨S1280x7168, .bf16⟩
  | .hbm, ⟨7, _⟩ => ⟨S1280x7168, .bf16⟩
  | .hbm, ⟨8, _⟩ => ⟨S1280x7168, .f32⟩
  | .hbm, ⟨9, _⟩ => ⟨S1280x7168, .f32⟩
  | .hbm, ⟨10, _⟩ => ⟨S1280x7168, .f32⟩
  | .hbm, ⟨11, _⟩ => ⟨S1280x7168, .fp8e4m3⟩
  | .hbm, ⟨12, _⟩ => ⟨S1280x56, .f32⟩
  | .local _ .vmem, ⟨0, _⟩ => ⟨S6x32x7168, .fp8e5m2⟩
  | .local _ .vmem, ⟨1, _⟩ => ⟨S6x32x7168, .fp8e5m2⟩
  | .local _ .vmem, ⟨2, _⟩ => ⟨S6x32x56, .f32⟩
  | .local _ .vmem, ⟨3, _⟩ => ⟨S6x32x56, .f32⟩
  | .local _ .vmem, ⟨4, _⟩ => ⟨S32x7168, .bf16⟩
  | .local _ .vmem, ⟨5, _⟩ => ⟨S32x7168, .bf16⟩
  | .local _ .vmem, ⟨6, _⟩ => ⟨S32x7168, .bf16⟩
  | .local _ .vmem, ⟨7, _⟩ => ⟨S32x7168, .bf16⟩
  | .local _ .vmem, ⟨8, _⟩ => ⟨S32x7168, .f32⟩
  | .local _ .vmem, ⟨9, _⟩ => ⟨S32x7168, .f32⟩
  | .local _ .vmem, ⟨10, _⟩ => ⟨S32x7168, .f32⟩
  | .local _ .vmem, ⟨11, _⟩ => ⟨S32x7168, .f32⟩
  | .local _ .vmem, ⟨12, _⟩ => ⟨S32x7168, .bf16⟩
  | .local _ .vmem, ⟨13, _⟩ => ⟨S32x7168, .bf16⟩
  | .local _ .vmem, ⟨14, _⟩ => ⟨S32x7168, .bf16⟩
  | .local _ .vmem, ⟨15, _⟩ => ⟨S32x7168, .bf16⟩
  | .local _ .vmem, ⟨16, _⟩ => ⟨S32x7168, .f32⟩
  | .local _ .vmem, ⟨17, _⟩ => ⟨S32x7168, .f32⟩
  | .local _ .vmem, ⟨18, _⟩ => ⟨S32x7168, .f32⟩
  | .local _ .vmem, ⟨19, _⟩ => ⟨S32x7168, .f32⟩
  | .local _ .vmem, ⟨20, _⟩ => ⟨S32x7168, .f32⟩
  | .local _ .vmem, ⟨21, _⟩ => ⟨S32x7168, .f32⟩
  | .local _ .vmem, ⟨22, _⟩ => ⟨S32x7168, .fp8e4m3⟩
  | .local _ .vmem, ⟨23, _⟩ => ⟨S32x7168, .fp8e4m3⟩
  | .local _ .vmem, ⟨24, _⟩ => ⟨S32x56, .f32⟩
  | .local _ .vmem, ⟨25, _⟩ => ⟨S32x56, .f32⟩
  | _, _ => ⟨S6x1280x7168, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x32x7168 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x32x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x7168 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x7168 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x7168 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x7168 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x56 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_ranks" => some ((1 / 6 : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S6x1280x7168 : Shape := ⟨3, ![6, 1280, 7168]⟩
abbrev S6x1280x56 : Shape := ⟨3, ![6, 1280, 56]⟩
abbrev S1280x7168 : Shape := ⟨2, ![1280, 7168]⟩
abbrev S1280x56 : Shape := ⟨2, ![1280, 56]⟩
abbrev S6x1280x56x128 : Shape := ⟨4, ![6, 1280, 56, 128]⟩
abbrev S6x1280x56x1 : Shape := ⟨4, ![6, 1280, 56, 1]⟩
abbrev S1280x56x128 : Shape := ⟨3, ![1280, 56, 128]⟩
abbrev S1280x56x1 : Shape := ⟨3, ![1280, 56, 1]⟩

abbrev nBuf : Space → Nat
  | .hbm => 13
  | .vmem => 13
  | .smem => 0
  | _ => 0

abbrev bufTy : (tb : Table) → Fin (tcTables nBuf tb) → BufTy
  | .hbm, ⟨0, _⟩ => ⟨S6x1280x7168, .fp8e5m2⟩
  | .hbm, ⟨1, _⟩ => ⟨S6x1280x56, .f32⟩
  | .hbm, ⟨2, _⟩ => ⟨S1280x7168, .bf16⟩
  | .hbm, ⟨3, _⟩ => ⟨S1280x7168, .bf16⟩
  | .hbm, ⟨4, _⟩ => ⟨S1280x7168, .f32⟩
  | .hbm, ⟨5, _⟩ => ⟨S1280x7168, .f32⟩
  | .hbm, ⟨6, _⟩ => ⟨S1280x7168, .bf16⟩
  | .hbm, ⟨7, _⟩ => ⟨S1280x7168, .bf16⟩
  | .hbm, ⟨8, _⟩ => ⟨S1280x7168, .f32⟩
  | .hbm, ⟨9, _⟩ => ⟨S1280x7168, .f32⟩
  | .hbm, ⟨10, _⟩ => ⟨S1280x7168, .f32⟩
  | .hbm, ⟨11, _⟩ => ⟨S1280x7168, .fp8e4m3⟩
  | .hbm, ⟨12, _⟩ => ⟨S1280x56, .f32⟩
  | .local _ .vmem, ⟨0, _⟩ => ⟨S6x1280x7168, .fp8e5m2⟩
  | .local _ .vmem, ⟨1, _⟩ => ⟨S6x1280x56, .f32⟩
  | .local _ .vmem, ⟨2, _⟩ => ⟨S1280x7168, .bf16⟩
  | .local _ .vmem, ⟨3, _⟩ => ⟨S1280x7168, .bf16⟩
  | .local _ .vmem, ⟨4, _⟩ => ⟨S1280x7168, .f32⟩
  | .local _ .vmem, ⟨5, _⟩ => ⟨S1280x7168, .f32⟩
  | .local _ .vmem, ⟨6, _⟩ => ⟨S1280x7168, .bf16⟩
  | .local _ .vmem, ⟨7, _⟩ => ⟨S1280x7168, .bf16⟩
  | .local _ .vmem, ⟨8, _⟩ => ⟨S1280x7168, .f32⟩
  | .local _ .vmem, ⟨9, _⟩ => ⟨S1280x7168, .f32⟩
  | .local _ .vmem, ⟨10, _⟩ => ⟨S1280x7168, .f32⟩
  | .local _ .vmem, ⟨11, _⟩ => ⟨S1280x7168, .fp8e4m3⟩
  | .local _ .vmem, ⟨12, _⟩ => ⟨S1280x56, .f32⟩
  | _, _ => ⟨S6x1280x7168, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S6x1280x7168 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1280x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1280x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1280x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1280x56 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KernelBlock.lean ====
/- One column block of the kernel's body. The body treats the 56 blocks of 128 columns alike; here what it stores for
   block `j` is one term in `j`, and each output window's contents after the body is the family of those terms. -/
module

public import proofs.«01_k».proof.Proof.Gen.KernelIdeal.Frame
public import Idealize.ShloMosaic.Lib.Pipeline.ValueKit.Tiles

@[expose] public section

set_option maxRecDepth 16384

noncomputable section

namespace Cert.KernelBlock

open Cert.KernelIdeal Cert.KernelIdeal.Gen Idealize.ShloMosaic Idealize.SL.Sem

variable {F : FTy → Type} [FloatOps F] [Named F]

/-- Rank `p`'s codes of block `j` lie in the window. -/
theorem inb0 (p : Fin 6) (j : Fin 56) : ∀ a, (![p.val, 0, 128 * j.val] : Fin 3 → Nat) a + S1x32x128.size a ≤ S6x32x7168.size a := by
  have := p.isLt; have := j.isLt
  intro a; fin_cases a
  · show p.val + 1 ≤ 6; omega
  · show 0 + 32 ≤ 32; omega
  · show 128 * j.val + 128 ≤ 7168; omega

/-- Rank `p`'s scales of block `j` lie in the window. -/
theorem inb1 (p : Fin 6) (j : Fin 56) : ∀ a, (![p.val, 0, j.val] : Fin 3 → Nat) a + S1x32x1.size a ≤ S6x32x56.size a := by
  have := p.isLt; have := j.isLt
  intro a; fin_cases a
  · show p.val + 1 ≤ 6; omega
  · show 0 + 32 ≤ 32; omega
  · show j.val + 1 ≤ 56; omega

/-- The columns of block `j` lie in the window. -/
theorem inb2 (j : Fin 56) : ∀ a, (![0, 128 * j.val] : Fin 2 → Nat) a + S32x128.size a ≤ S32x7168.size a := by
  have := j.isLt
  intro a; fin_cases a
  · show 0 + 32 ≤ 32; omega
  · show 128 * j.val + 128 ≤ 7168; omega

/-- The scale of block `j` lies in the window. -/
theorem inb3 (j : Fin 56) : ∀ a, (![0, j.val] : Fin 2 → Nat) a + S32x1.size a ≤ S32x56.size a := by
  have := j.isLt
  intro a; fin_cases a
  · show 0 + 32 ≤ 32; omega
  · show j.val + 1 ≤ 56; omega

/-- Rank `p`'s gradient codes of block `j`. -/
abbrev rG (p : Fin 6) (j : Fin 56) : Rect S6x32x7168 := Rect.unit (s := S6x32x7168) ![p.val, 0, 128 * j.val] S1x32x128.size (inb0 p j)

/-- Rank `p`'s gradient scales of block `j`. -/
abbrev rS (p : Fin 6) (j : Fin 56) : Rect S6x32x56 := Rect.unit (s := S6x32x56) ![p.val, 0, j.val] S1x32x1.size (inb1 p j)

/-- The columns of block `j`. -/
abbrev rC (j : Fin 56) : Rect S32x7168 := Rect.unit (s := S32x7168) ![0, 128 * j.val] S32x128.size (inb2 j)

/-- The scale of block `j`. -/
abbrev rK (j : Fin 56) : Rect S32x56 := Rect.unit (s := S32x56) ![0, j.val] S32x1.size (inb3 j)

variable (x0 : Vec F S6x32x7168 .fp8e5m2) (x1 : Vec F S6x32x56 .f32) (x2 : Vec F S32x7168 .bf16) (x3 : Vec F S32x7168 .bf16)
  (x4 : Vec F S32x7168 .f32) (x5 : Vec F S32x7168 .f32) (j : Fin 56)

/-- Rank `p`'s dequantized gradient of block `j`. -/
def termB (p : Fin 6) : FVec F S32x128 .f32 :=
  mulf (extf .f32 (shapeCast S32x128 (View.ld x0 (rG p j) : Vec F S1x32x128 .fp8e5m2) shapeCasts_S1x32x128_S32x128) bitsLt_fp8e5m2_f32)
    (broadcastTo S32x128 (shapeCast S32x1 (View.ld x1 (rS p j) : Vec F S1x32x1 .f32) shapeCasts_S1x32x1_S32x1) broadcasts_S32x1_S32x128)

/-- The mean gradient of block `j`. -/
def gradB : FVec F S32x128 .f32 :=
  mulf (addf (addf (addf (addf (addf (termB x0 x1 j 0) (termB x0 x1 j 1)) (termB x0 x1 j 2)) (termB x0 x1 j 3)) (termB x0 x1 j 4))
    (termB x0 x1 j 5)) (broadcast S32x128 (Named.named κ "inv_ranks" 0x3E2AAAAB#32))

/-- The master weights of block `j`. -/
def masterB : FVec F S32x128 .f32 :=
  addf (extf .f32 (View.ld x2 (rC j) : Vec F S32x128 .bf16) bitsLt_bf16_f32) (extf .f32 (View.ld x3 (rC j) : Vec F S32x128 .bf16) bitsLt_bf16_f32)

/-- The new first moment of block `j`. -/
def mB : FVec F S32x128 .f32 :=
  addf (mulf (broadcast S32x128 (Scalar.ofBits .f32 0x3F666666#32)) (View.ld x4 (rC j) : Vec F S32x128 .f32))
    (mulf (broadcast S32x128 (Scalar.ofBits .f32 0x3DCCCCCD#32)) (gradB x0 x1 j))

/-- The new second moment of block `j`. -/
def vB : FVec F S32x128 .f32 :=
  addf (mulf (broadcast S32x128 (Scalar.ofBits .f32 0x3F733333#32)) (View.ld x5 (rC j) : Vec F S32x128 .f32))
    (mulf (broadcast S32x128 (Scalar.ofBits .f32 0x3D4CCCCD#32)) (mulf (gradB x0 x1 j) (gradB x0 x1 j)))

/-- The update of block `j`. -/
def updB : FVec F S32x128 .f32 :=
  mulf (broadcast S32x128 (Scalar.ofBits .f32 0x3C23D70A#32))
    (addf (divf (divf (mB x0 x1 x4 j) (broadcast S32x128 (Scalar.ofBits .f32 0x3F60E05A#32)))
        (addf (sqrt (divf (vB x0 x1 x5 j) (broadcast S32x128 (Scalar.ofBits .f32 0x3F243A44#32))))
          (broadcast S32x128 (Scalar.ofBits .f32 0x322BCC77#32))))
      (mulf (broadcast S32x128 (Scalar.ofBits .f32 0x3DCCCCCD#32)) (masterB x2 x3 j)))

/-- The new master weights of block `j`. -/
def newB : FVec F S32x128 .f32 := subf (masterB x2 x3 j) (updB x0 x1 x2 x3 x4 x5 j)

/-- Their high half. -/
def hiB : FVec F S32x128 .bf16 := truncf .bf16 (newB x0 x1 x2 x3 x4 x5 j) bitsLt_bf16_f32

/-- Their low half. -/
def loB : FVec F S32x128 .bf16 :=
  truncf .bf16 (subf (newB x0 x1 x2 x3 x4 x5 j) (extf .f32 (hiB x0 x1 x2 x3 x4 x5 j) bitsLt_bf16_f32)) bitsLt_bf16_f32

/-- The greatest magnitude of a row of block `j`, over 448. -/
def amaxB : FVec F S32x1 .f32 :=
  mulf (shapeCast S32x1 (multiReduction .maximumf [1] S32 (absf (newB x0 x1 x2 x3 x4 x5 j)) 0xFF800000#32 reduces_S32x128_S32 (.inl rfl) rfl)
    shapeCasts_S32_S32x1) (broadcast S32x1 (Scalar.ofBits .f32 0x3B124925#32))

/-- The 256 candidate words of exponent bits, on every row. -/
def wordB : IVec S32x256 32 :=
  muli (minsi (iota .tc S32x256 32 [1] iota_S32x256_d1_w32) (broadcast S32x256 252#32)) (broadcast S32x256 8388608#32)

/-- The exponent bits of `y`, row by row. -/
def bitsB (y : FVec F S32x1 .f32) : IVec S32x1 32 :=
  shapeCast S32x1 (multiReductionI .maxsi [1] S32 (select (cmpf .ole (bitcastToFloat .f32 wordB : FVec F S32x256 .f32) (broadcastTo S32x256 y broadcasts_S32x1_S32x256))
    wordB (broadcast S32x256 0#32)) 2147483648#32 reduces_S32x256_S32 rfl) shapeCasts_S32_S32x1

/-- Those of one half where they are zero. -/
def bitsB' (y : FVec F S32x1 .f32) : IVec S32x1 32 :=
  select (cmpi .eq (bitsB y) (broadcast S32x1 0#32)) (broadcast S32x1 1056964608#32) (bitsB y)

/-- The scales of block `j`. -/
def scaleB : FVec F S32x1 .f32 :=
  bitcastToFloat .f32 (addi (bitsB' (amaxB x0 x1 x2 x3 x4 x5 j)) (broadcast S32x1 8388608#32))

/-- The codes of block `j`. -/
def codeB : FVec F S32x128 .fp8e4m3 :=
  truncf .fp8e4m3 (minimumf (broadcast S32x128 (Scalar.ofBits .f32 0x43E00000#32)) (maximumf (broadcast S32x128 (Scalar.ofBits .f32 0xC3E00000#32))
    (mulf (newB x0 x1 x2 x3 x4 x5 j) (broadcastTo S32x128 (bitcastToFloat .f32
      (subi (broadcast S32x1 2122317824#32) (bitsB' (amaxB x0 x1 x2 x3 x4 x5 j))) : FVec F S32x1 .f32) broadcasts_S32x1_S32x128)))) bitsLt_fp8e4m3_f32

/-- Output window 8 (the new first moment) after the body: block `55 - k` is the piece numbered `k`. -/
theorem out8_eq : out0_8 x0 x1 x2 x3 x4 x5 = View.canon (List.ofFn fun k : Fin 56 => ⟨rC (Fin.rev k), mB x0 x1 x4 (Fin.rev k)⟩) := by
  unfold_out out0_8
  rfl

/-- Output window 9 (the new second moment) after the body, likewise. -/
theorem out9_eq : out0_9 x0 x1 x2 x3 x4 x5 = View.canon (List.ofFn fun k : Fin 56 => ⟨rC (Fin.rev k), vB x0 x1 x5 (Fin.rev k)⟩) := by
  unfold_out out0_9
  rfl

/-- Output window 10 (the update) after the body, likewise. -/
theorem out10_eq : out0_10 x0 x1 x2 x3 x4 x5 = View.canon (List.ofFn fun k : Fin 56 => ⟨rC (Fin.rev k), updB x0 x1 x2 x3 x4 x5 (Fin.rev k)⟩) := by
  unfold_out out0_10
  rfl

/-- Output window 6 (the high half) after the body, likewise. -/
theorem out6_eq : out0_6 x0 x1 x2 x3 x4 x5 = View.canon (List.ofFn fun k : Fin 56 => ⟨rC (Fin.rev k), hiB x0 x1 x2 x3 x4 x5 (Fin.rev k)⟩) := by
  unfold_out out0_6
  rfl

/-- Output window 7 (the low half) after the body, likewise. -/
theorem out7_eq : out0_7 x0 x1 x2 x3 x4 x5 = View.canon (List.ofFn fun k : Fin 56 => ⟨rC (Fin.rev k), loB x0 x1 x2 x3 x4 x5 (Fin.rev k)⟩) := by
  unfold_out out0_7
  rfl

/-- Output window 11 (the codes) after the body, likewise. -/
theorem out11_eq : out0_11 x0 x1 x2 x3 x4 x5 = View.canon (List.ofFn fun k : Fin 56 => ⟨rC (Fin.rev k), codeB x0 x1 x2 x3 x4 x5 (Fin.rev k)⟩) := by
  unfold_out out0_11
  rfl

/-- Output window 12 (the scales) after the body, likewise. -/
theorem out12_eq : out0_12 x0 x1 x2 x3 x4 x5 = View.canon (List.ofFn fun k : Fin 56 => ⟨rK (Fin.rev k), scaleB x0 x1 x2 x3 x4 x5 (Fin.rev k)⟩) := by
  unfold_out out0_12
  rfl

end Cert.KernelBlock

end
-- ==== Proof.Consts.lean ====
/- The float constants of the two programs, as the extended reals their patterns denote, and the powers of two a word of
   exponent bits alone denotes. -/
module

public import Idealize.ShloMosaic.PureOps.Ideal

@[expose] public section

noncomputable section

namespace Cert.Consts

open Idealize.ShloMosaic

/-- The all-zero pattern denotes `0`. -/
theorem ofBits_zero : Ideal.ofBits .f32 0x00000000#32 = 0 := by
  simp [Ideal.ofBits, Ideal.ieee, -EReal.coe_mul]

/-- `1.0` denotes the real `1`. -/
theorem ofBits_one : Ideal.ofBits .f32 0x3F800000#32 = ((1 : ℝ) : EReal) := by
  simp [Ideal.ofBits, Ideal.ieee, -EReal.coe_mul]; norm_num

/-- `6.0` denotes the real `6`. -/
theorem ofBits_six : Ideal.ofBits .f32 0x40C00000#32 = ((6 : ℝ) : EReal) := by
  simp [Ideal.ofBits, Ideal.ieee, -EReal.coe_mul]; norm_num

/-- `126.0` denotes the real `126`. -/
theorem ofBits_126 : Ideal.ofBits .f32 0x42FC0000#32 = ((126 : ℝ) : EReal) := by
  simp [Ideal.ofBits, Ideal.ieee, -EReal.coe_mul]; norm_num

/-- The word whose exponent field is `k` and whose other bits are clear denotes `2 ^ (k - 127)`, for `1 ≤ k ≤ 254`. -/
theorem ofBits_field (k : ℕ) (h1 : 1 ≤ k) (h2 : k ≤ 254) :
    Ideal.ofBits .f32 (BitVec.ofNat 32 (k * 8388608)) = (((2 : ℝ) ^ ((k : ℤ) - 127) : ℝ) : EReal) := by
  have hk : (BitVec.ofNat 32 (k * 8388608)).toNat = k * 8388608 := by
    rw [BitVec.toNat_ofNat]; exact Nat.mod_eq_of_lt (by omega)
  have hs : (BitVec.ofNat 32 (k * 8388608)).extractLsb' 31 1 = 0#1 := by
    apply BitVec.eq_of_toNat_eq
    rw [BitVec.extractLsb'_toNat, hk, Nat.shiftRight_eq_div_pow]
    have : k * 8388608 / 2 ^ 31 = 0 := Nat.div_eq_of_lt (by omega)
    rw [this]; rfl
  have he : ((BitVec.ofNat 32 (k * 8388608)).extractLsb' 23 8).toNat = k := by
    rw [BitVec.extractLsb'_toNat, hk, Nat.shiftRight_eq_div_pow]
    have : k * 8388608 / 2 ^ 23 = k := by omega
    rw [this]; exact Nat.mod_eq_of_lt (by omega)
  have hf : ((BitVec.ofNat 32 (k * 8388608)).extractLsb' 0 23).toNat = 0 := by
    rw [BitVec.extractLsb'_toNat, hk, Nat.shiftRight_zero]; omega
  show Ideal.ieee 8 23 (BitVec.ofNat 32 (k * 8388608)) = _
  unfold Ideal.ieee
  simp only [show 8 + 23 = 31 from rfl, hs, he, hf]
  rw [if_neg (by omega), if_neg (by omega)]
  congr 1
  have : ((k : ℤ) - (2 ^ (8 - 1) - 1) - ((23 : ℕ) : ℤ)) = ((k : ℤ) - 127) + (-23) := by norm_num; ring
  rw [this, zpow_add₀ (by norm_num)]
  norm_num
  ring

/-- The least normal f32 denotes `2 ^ (-126)`. -/
theorem ofBits_tiny : Ideal.ofBits .f32 0x00800000#32 = (((2 : ℝ) ^ (-126 : ℤ) : ℝ) : EReal) := by
  have := ofBits_field 1 le_rfl (by norm_num)
  exact this

end Cert.Consts

end
-- ==== Proof.Exponent.lean ====
/- The block exponent. The kernel finds the exponent bits of a block's `amax / 448` as the greatest word, among the words whose
   exponent field is at most 252 and whose other bits are clear, whose power of two is at most it; the reference states
   `⌊log x / log 2⌋ + 1`. Here both are one number, for every extended real. -/
module

public import Idealize.ShloMosaic.PureOps.Ideal
public import Idealize.ShloMosaic.Lib.SortNet.Extract
public import proofs.«01_k».proof.Proof.Consts

@[expose] public section

noncomputable section

namespace Cert.Exponent

open Idealize.ShloMosaic

/-- The `k`-th candidate word: field `k`, held at 252, in the exponent's place. -/
def word (k : ℕ) : BitVec 32 := IntOp.muli (IntOp.minsi (BitVec.ofNat 32 k) 252#32) 8388608#32

/-- The `k`-th candidate where its power of two is at most `y`, else zero. -/
def cand (y : EReal) (k : ℕ) : BitVec 32 :=
  if Ideal.ofBits .f32 (word k) ≤ y then word k else 0#32

/-- The greatest candidate: the exponent bits of `y`. -/
def bits (y : EReal) : BitVec 32 :=
  (Finset.univ : Finset (Fin 256)).fold IntOp.maxsi 2147483648#32 fun k => cand y k.val

/-- The exponent bits the scale is made of: those of `1/2` for a block of zeros. -/
def bits' (y : EReal) : BitVec 32 := if bits y = 0#32 then 1056964608#32 else bits y

/-- The reference's exponent. -/
def expo (y : EReal) : EReal :=
  if y < Ideal.ofBits .f32 0x00800000#32 then Ideal.ofBits .f32 0x00000000#32
  else min (Ideal.liftRound Int.floor (Ideal.div (Ideal.log y) ((Real.log 2 : ℝ) : EReal)) + Ideal.ofBits .f32 0x3F800000#32)
    (Ideal.ofBits .f32 0x42FC0000#32)

/-- A candidate word is its field times the weight of the exponent's place. -/
theorem word_eq (k : ℕ) (hk : k < 256) : word k = BitVec.ofNat 32 (min k 252 * 8388608) := by
  have : ∀ k : Fin 256, word k.val = BitVec.ofNat 32 (min k.val 252 * 8388608) := by decide +kernel
  exact this ⟨k, hk⟩

/-- The power of two of field `k` is at most `y`. -/
def Le (y : EReal) (k : ℕ) : Prop := k = 0 ∨ (((2 : ℝ) ^ ((k : ℤ) - 127) : ℝ) : EReal) ≤ y

open Classical in
/-- The greatest field up to 252 whose power of two is at most `y`; zero when there is none. -/
def field (y : EReal) : ℕ := Nat.findGreatest (Le y) 252

/-- The field is at most 252. -/
theorem field_le (y : EReal) : field y ≤ 252 := by
  classical exact Nat.findGreatest_le 252

/-- The power of two of the field is at most `y`. -/
theorem field_spec (y : EReal) : Le y (field y) := by
  classical
  exact Nat.findGreatest_spec (P := Le y) (Nat.zero_le 252) (Or.inl rfl)

/-- No greater field's power of two is. -/
theorem le_field (y : EReal) {k : ℕ} (hk : k ≤ 252) (h : Le y k) : k ≤ field y := by
  classical
  exact Nat.le_findGreatest hk h

/-- A candidate is a word of exponent bits whose field is at most `field y`; -/
theorem cand_le (y : EReal) (k : ℕ) (hk : k < 256) :
    ∃ b, b ≤ field y ∧ cand y k = BitVec.ofNat 32 (b * 8388608) := by
  unfold cand
  by_cases h : Ideal.ofBits .f32 (word k) ≤ y
  · rw [if_pos h]
    refine ⟨min k 252, ?_, word_eq k hk⟩
    rcases Nat.eq_zero_or_pos k with h0 | h0
    · subst h0; simp
    · refine le_field y (by omega) (Or.inr ?_)
      rw [word_eq k hk, Consts.ofBits_field _ (by omega) (by omega)] at h
      exact h
  · rw [if_neg h]
    exact ⟨0, Nat.zero_le _, rfl⟩

/-- and `field y` is met. -/
theorem cand_field (y : EReal) : cand y (field y) = BitVec.ofNat 32 (field y * 8388608) := by
  have hle := field_le y
  have hw := word_eq (field y) (by omega)
  rw [min_eq_left hle] at hw
  unfold cand
  by_cases h : Ideal.ofBits .f32 (word (field y)) ≤ y
  · rw [if_pos h, hw]
  · rw [if_neg h]
    rcases field_spec y with h0 | h0
    · rw [h0]
    · rcases Nat.eq_zero_or_pos (field y) with h1 | h1
      · rw [h1]
      · exfalso; apply h
        rw [hw, Consts.ofBits_field _ h1 (by omega)]
        exact h0

/-- A word of exponent bits is not negative. -/
theorem toInt_field (b : ℕ) (hb : b ≤ 252) : (BitVec.ofNat 32 (b * 8388608)).toInt = (b * 8388608 : ℤ) := by
  rw [BitVec.toInt_eq_toNat_cond, BitVec.toNat_ofNat, Nat.mod_eq_of_lt (by omega)]
  rw [if_pos (by omega)]; push_cast; rfl

/-- The greatest candidate is the word of `field y`. -/
theorem bits_eq (y : EReal) : bits y = BitVec.ofNat 32 (field y * 8388608) := by
  have hle := field_le y
  obtain ⟨-, h2, h3⟩ := SortNet.fold_maxsi_spec (fun k : Fin 256 => cand y k.val) Finset.univ 2147483648#32
  change _ ∨ _ at h3
  have hge : (field y * 8388608 : ℤ) ≤ (bits y).toInt := by
    have := h2 ⟨field y, by omega⟩ (Finset.mem_univ _)
    rw [show cand y (⟨field y, by omega⟩ : Fin 256).val = _ from cand_field y, toInt_field _ hle] at this
    exact this
  rcases h3 with h3 | ⟨i, -, h3⟩
  · exfalso
    have e : (bits y).toInt = -2147483648 := by
      rw [show bits y = 2147483648#32 from h3]; decide
    omega
  · obtain ⟨b, hb, hc⟩ := cand_le y i.val i.isLt
    have e : bits y = BitVec.ofNat 32 (b * 8388608) := h3.trans hc
    rw [e, toInt_field b (by omega)] at hge
    have : b = field y := by omega
    rw [e, this]

/-- The field of the scale's word, less one. -/
def field' (y : EReal) : ℕ := if field y = 0 then 126 else field y

/-- The field of the scale lies between 1 and 252. -/
theorem field'_bounds (y : EReal) : 1 ≤ field' y ∧ field' y ≤ 252 := by
  have := field_le y
  unfold field'; split <;> omega

/-- The exponent bits the scale is made of are the word of that field. -/
theorem bits'_eq (y : EReal) : bits' y = BitVec.ofNat 32 (field' y * 8388608) := by
  have hle := field_le y
  unfold bits' field'
  rw [bits_eq]
  by_cases h : field y = 0
  · rw [if_pos (by rw [h]), if_pos h]
  · rw [if_neg, if_neg h]
    intro hc
    have := congrArg BitVec.toNat hc
    rw [BitVec.toNat_ofNat, Nat.mod_eq_of_lt (by omega)] at this
    simp at this; omega

/-- The reference's exponent is the field less 126. -/
theorem expo_eq (y : EReal) : expo y = (((field' y : ℤ) - 126 : ℤ) : ℝ) := by
  have hle := field_le y
  unfold expo field'
  rw [Consts.ofBits_tiny, Consts.ofBits_zero, Consts.ofBits_one, Consts.ofBits_126]
  by_cases h : y < (((2 : ℝ) ^ (-126 : ℤ) : ℝ) : EReal)
  · have h0 : field y = 0 := by
      rcases field_spec y with h0 | h0
      · exact h0
      · by_contra hne
        refine absurd (lt_of_le_of_lt h0 h) (not_lt.mpr (EReal.coe_le_coe_iff.mpr ?_))
        exact zpow_le_zpow_right₀ (by norm_num) (by omega)
    rw [if_pos h, if_pos h0]; simp
  · rw [if_neg h]
    rw [not_lt] at h
    have h1 : 1 ≤ field y := le_field y (by norm_num) (Or.inr (by simpa using h))
    rw [if_neg (by omega)]
    have hlow : (((2 : ℝ) ^ ((field y : ℤ) - 127) : ℝ) : EReal) ≤ y := by
      rcases field_spec y with h0 | h0
      · omega
      · exact h0
    have hl2 : (0 : ℝ) < Real.log 2 := Real.log_pos (by norm_num)
    have hup : field y < 252 → y < (((2 : ℝ) ^ ((field y : ℤ) - 126) : ℝ) : EReal) := by
      intro hlt
      by_contra hc
      rw [not_lt] at hc
      have := le_field y (k := field y + 1) (by omega) (Or.inr (by
        rw [show (((field y + 1 : ℕ) : ℤ) - 127) = (field y : ℤ) - 126 by push_cast; ring]; exact hc))
      omega
    induction y using EReal.rec with
    | bot => simp at h
    | top =>
      have : field ⊤ = 252 := by
        by_contra hne
        exact absurd (hup (by omega)) (by simp)
      rw [this, Ideal.log_top]
      have : Ideal.div ⊤ ((Real.log 2 : ℝ) : EReal) = ⊤ := by
        unfold Ideal.div
        rw [if_neg (by simpa using hl2.ne'), ← EReal.coe_inv]
        exact EReal.top_mul_coe_of_pos (inv_pos.mpr hl2)
      rw [this]
      show min ((⊤ : EReal) + ((1 : ℝ) : EReal)) _ = _
      rw [EReal.top_add_coe, min_eq_right le_top]
      norm_num
    | coe r =>
      have hr : (2 : ℝ) ^ ((field (r : EReal) : ℤ) - 127) ≤ r := EReal.coe_le_coe_iff.mp hlow
      have hpos : 0 < r := lt_of_lt_of_le (zpow_pos (by norm_num) _) hr
      rw [Ideal.log_coe, if_neg (not_le.mpr hpos)]
      have hd : Ideal.div ((Real.log r : ℝ) : EReal) ((Real.log 2 : ℝ) : EReal) = ((Real.log r / Real.log 2 : ℝ) : EReal) := by
        unfold Ideal.div
        rw [if_neg (by simpa using hl2.ne'), ← EReal.coe_inv, ← EReal.coe_mul, div_eq_mul_inv]
      rw [hd]
      show min (((⌊Real.log r / Real.log 2⌋ : ℤ) : ℝ) + ((1 : ℝ) : EReal)) _ = _
      rw [← EReal.coe_add, ← EReal.coe_strictMono.monotone.map_min, EReal.coe_eq_coe_iff]
      have hfl : ((field (r : EReal) : ℤ) - 127) ≤ ⌊Real.log r / Real.log 2⌋ := by
        rw [Int.le_floor, le_div_iff₀ hl2, ← Real.log_zpow]
        exact Real.log_le_log (zpow_pos (by norm_num) _) hr
      rcases Nat.lt_or_ge (field (r : EReal)) 252 with hlt | hge
      · have hu : r < (2 : ℝ) ^ ((field (r : EReal) : ℤ) - 126) := EReal.coe_lt_coe_iff.mp (hup hlt)
        have hfu : ⌊Real.log r / Real.log 2⌋ < (field (r : EReal) : ℤ) - 126 := by
          rw [Int.floor_lt, div_lt_iff₀ hl2, ← Real.log_zpow]
          exact Real.log_lt_log hpos hu
        have he : ⌊Real.log r / Real.log 2⌋ = (field (r : EReal) : ℤ) - 127 := by omega
        rw [he, min_eq_left]
        · push_cast; ring
        · have : ((field (r : EReal) : ℕ) : ℝ) ≤ 252 := by exact_mod_cast hle
          push_cast; linarith
      · have he : field (r : EReal) = 252 := by omega
        rw [he] at hfl ⊢
        have : (125 : ℝ) ≤ ((⌊Real.log r / Real.log 2⌋ : ℤ) : ℝ) := by
          have : (125 : ℤ) ≤ ⌊Real.log r / Real.log 2⌋ := by omega
          exact_mod_cast this
        rw [min_eq_right (by linarith)]
        norm_num

/-- The kernel's scale, made from exponent bits, is `2` to the reference's exponent. -/
theorem scale_eq (y : EReal) :
    Ideal.ofBits .f32 (bits' y + 8388608#32) = Ideal.exp2 (expo y) := by
  obtain ⟨h1, h2⟩ := field'_bounds y
  have e : bits' y + 8388608#32 = BitVec.ofNat 32 ((field' y + 1) * 8388608) := by
    rw [bits'_eq, Nat.add_mul, one_mul, BitVec.ofNat_add]
  rw [e, Consts.ofBits_field _ (by omega) (by omega), expo_eq, Ideal.exp2_coe]
  rw [EReal.coe_eq_coe_iff]
  show _ = (2 : ℝ) ^ ((((field' y : ℤ) - 126 : ℤ) : ℝ))
  rw [Real.rpow_intCast]
  congr 1
  push_cast; ring

/-- The kernel's reciprocal scale, likewise, is `2` to minus the reference's exponent. -/
theorem inv_eq (y : EReal) :
    Ideal.ofBits .f32 (2122317824#32 - bits' y) = Ideal.exp2 (Ideal.ofBits .f32 0x00000000#32 - expo y) := by
  obtain ⟨h1, h2⟩ := field'_bounds y
  have e : 2122317824#32 - bits' y = BitVec.ofNat 32 ((253 - field' y) * 8388608) := by
    rw [bits'_eq]
    apply BitVec.eq_of_toNat_eq
    rw [BitVec.toNat_sub, BitVec.toNat_ofNat, BitVec.toNat_ofNat, BitVec.toNat_ofNat]
    rw [Nat.mod_eq_of_lt (a := field' y * 8388608) (by omega), Nat.mod_eq_of_lt (a := (253 - field' y) * 8388608) (by omega)]
    omega
  rw [e, Consts.ofBits_field _ (by omega) (by omega), expo_eq, Consts.ofBits_zero, zero_sub, ← EReal.coe_neg, Ideal.exp2_coe]
  rw [EReal.coe_eq_coe_iff]
  show _ = (2 : ℝ) ^ (-((((field' y : ℤ) - 126 : ℤ) : ℝ)))
  rw [← Int.cast_neg, Real.rpow_intCast]
  congr 1
  push_cast [Nat.cast_sub (show field' y ≤ 253 by omega)]; ring

end Cert.Exponent

end
-- ==== Proof.Row.lean ====
/- The step, row by row, over the extended reals: what each of the seven results is as a function of one row of the six
   arguments. Both programs are shown to compute these functions of every row. -/
module

public import proofs.«01_k».proof.Proof.Exponent

@[expose] public section

noncomputable section

namespace Cert.Row

open Idealize.ShloMosaic

/-- The block a column lies in. -/
def blk (c : Fin 7168) : Fin 56 := ⟨c.val / 128, by omega⟩

/-- Column `l` of block `j`. -/
def col (j : Fin 56) (l : Fin 128) : Fin 7168 := ⟨128 * j.val + l.val, by omega⟩

/-- Column `l` of block `j` lies in block `j`. -/
theorem blk_col (j : Fin 56) (l : Fin 128) : blk (col j l) = j := by
  apply Fin.ext; show (128 * j.val + l.val) / 128 = j.val; omega

/-- Every column is a column of a block. -/
theorem exists_col (c : Fin 7168) : ∃ (j : Fin 56) (l : Fin 128), c = col j l :=
  ⟨blk c, ⟨c.val % 128, Nat.mod_lt _ (by norm_num)⟩, Fin.ext (Nat.div_add_mod c.val 128).symm⟩

/-- A row of the arguments: the six ranks' codes and block scales, the two halves of the master weights, the two moments. -/
structure Args where
  q : Fin 6 → Fin 7168 → EReal
  s : Fin 6 → Fin 56 → EReal
  hi : Fin 7168 → EReal
  lo : Fin 7168 → EReal
  m : Fin 7168 → EReal
  v : Fin 7168 → EReal

variable (A : Args)

/-- The mean gradient. -/
def grad (c : Fin 7168) : EReal :=
  (A.q 0 c * A.s 0 (blk c) + A.q 1 c * A.s 1 (blk c) + A.q 2 c * A.s 2 (blk c) + A.q 3 c * A.s 3 (blk c)
    + A.q 4 c * A.s 4 (blk c) + A.q 5 c * A.s 5 (blk c)) * ((1 / 6 : ℝ) : EReal)

/-- The master weight. -/
def master (c : Fin 7168) : EReal := A.hi c + A.lo c

/-- The new first moment. -/
def mNew (c : Fin 7168) : EReal :=
  Ideal.ofBits .f32 0x3F666666#32 * A.m c + Ideal.ofBits .f32 0x3DCCCCCD#32 * grad A c

/-- The new second moment. -/
def vNew (c : Fin 7168) : EReal :=
  Ideal.ofBits .f32 0x3F733333#32 * A.v c + Ideal.ofBits .f32 0x3D4CCCCD#32 * (grad A c * grad A c)

/-- The update. -/
def upd (c : Fin 7168) : EReal :=
  Ideal.ofBits .f32 0x3C23D70A#32 *
    (Ideal.div (Ideal.div (mNew A c) (Ideal.ofBits .f32 0x3F60E05A#32))
        (Ideal.sqrt (Ideal.div (vNew A c) (Ideal.ofBits .f32 0x3F243A44#32)) + Ideal.ofBits .f32 0x322BCC77#32)
      + Ideal.ofBits .f32 0x3DCCCCCD#32 * master A c)

/-- The new master weight, which is also its high half: rounding is the identity here. -/
def masterNew (c : Fin 7168) : EReal := master A c - upd A c

/-- The low half. -/
def lowNew (c : Fin 7168) : EReal := masterNew A c - masterNew A c

/-- The greatest magnitude of a block, over 448. -/
def amax (j : Fin 56) : EReal :=
  (Finset.univ : Finset (Fin 128)).fold max (Ideal.ofBits .f32 0xFF800000#32) (fun l => max (masterNew A (col j l)) (-masterNew A (col j l)))
    * Ideal.ofBits .f32 0x3B124925#32

/-- The scale of a block. -/
def scale (j : Fin 56) : EReal := Ideal.exp2 (Exponent.expo (amax A j))

/-- The code of a column. -/
def code (c : Fin 7168) : EReal :=
  min (Ideal.ofBits .f32 0x43E00000#32) (max (Ideal.ofBits .f32 0xC3E00000#32)
    (masterNew A c * Ideal.exp2 (Ideal.ofBits .f32 0x00000000#32 - Exponent.expo (amax A (blk c)))))

end Cert.Row

end
-- ==== Proof.KernelRow.lean ====
/- One column block of the kernel's body, read at an index over the extended reals: row `r` of what the body computes is the
   step (Row.lean) of row `r` of its input blocks. -/
module

public import proofs.«01_k».proof.Proof.KernelBlock
public import proofs.«01_k».proof.Proof.Row
public import Idealize.ShloMosaic.Lib.Pointwise

@[expose] public section

set_option maxRecDepth 16384

noncomputable section

namespace Cert.KernelRow

open Cert.KernelIdeal Cert.KernelIdeal.Gen Cert.KernelBlock Idealize.ShloMosaic Idealize.SL.Sem

variable (x0 : Vec Ideal S6x32x7168 .fp8e5m2) (x1 : Vec Ideal S6x32x56 .f32) (x2 : Vec Ideal S32x7168 .bf16) (x3 : Vec Ideal S32x7168 .bf16)
  (x4 : Vec Ideal S32x7168 .f32) (x5 : Vec Ideal S32x7168 .f32) (j : Fin 56)

/-- Row `r` of the input blocks. -/
def args (r : Fin 32) : Row.Args where
  q p c := x0 (ix3 p r c)
  s p b := x1 (ix3 p r b)
  hi c := x2 (ix2 r c)
  lo c := x3 (ix2 r c)
  m c := x4 (ix2 r c)
  v c := x5 (ix2 r c)

/-- A load of rank `p`'s codes, at an index. -/
theorem ldG (p : Fin 6) (r : Fin 32) (l : Fin 128) :
    (View.ld x0 (rG p j) : Vec Ideal S1x32x128 .fp8e5m2) (ix3 0 r l) = x0 (ix3 p r (Row.col j l)) := by
  refine View.ld_unit_apply_of _ _ _ _ _ _ ?_
  intro a; fin_cases a <;> simp [ix3, Row.col]

/-- A load of rank `p`'s block scales, at an index. -/
theorem ldS (p : Fin 6) (r : Fin 32) :
    (View.ld x1 (rS p j) : Vec Ideal S1x32x1 .f32) (ix3 0 r 0) = x1 (ix3 p r j) := by
  refine View.ld_unit_apply_of _ _ _ _ _ _ ?_
  intro a; fin_cases a <;> simp [ix3]

/-- A rank's dequantized block at an index, whatever was loaded. -/
theorem term_at (g : Vec Ideal S1x32x128 .fp8e5m2) (s : Vec Ideal S1x32x1 .f32) (r : Fin 32) (l : Fin 128) :
    mulf (extf .f32 (shapeCast S32x128 g shapeCasts_S1x32x128_S32x128) bitsLt_fp8e5m2_f32 : FVec Ideal S32x128 .f32)
      (broadcastTo S32x128 (shapeCast S32x1 s shapeCasts_S1x32x1_S32x1) broadcasts_S32x1_S32x128) (ix2 r l)
    = g (ix3 0 r l) * s (ix3 0 r 0) := by
  pointwise

/-- A rank's dequantized gradient at an index is its code times its block's scale. -/
theorem termB_apply (p : Fin 6) (r : Fin 32) (l : Fin 128) :
    termB x0 x1 j p (ix2 r l) = (args x0 x1 x2 x3 x4 x5 r).q p (Row.col j l) * (args x0 x1 x2 x3 x4 x5 r).s p j := by
  unfold termB
  rw [term_at, ldG, ldS]
  rfl

/-- The kernel's named constant denotes the real `1 / 6`. -/
theorem inv_ranks : Named.named (F := Ideal) κ "inv_ranks" (φ := .f32) 0x3E2AAAAB#32 = ((1 / 6 : ℝ) : EReal) :=
  IdealRules.named_const.ideal_named_scalar _ _ _ _ rfl

/-- The kernel's mean gradient is the step's. -/
theorem gradB_apply (r : Fin 32) (l : Fin 128) :
    gradB x0 x1 j (ix2 r l) = Row.grad (args x0 x1 x2 x3 x4 x5 r) (Row.col j l) := by
  unfold gradB Row.grad
  pointwise [termB_apply x0 x1 x2 x3 x4 x5]
  rw [inv_ranks, Row.blk_col]

/-- The kernel's master weight is the step's. -/
theorem masterB_apply (r : Fin 32) (l : Fin 128) :
    masterB x2 x3 j (ix2 r l) = Row.master (args x0 x1 x2 x3 x4 x5 r) (Row.col j l) := by
  unfold masterB Row.master
  pointwise
  rfl

/-- The kernel's new first moment is the step's. -/
theorem mB_apply (r : Fin 32) (l : Fin 128) :
    mB x0 x1 x4 j (ix2 r l) = Row.mNew (args x0 x1 x2 x3 x4 x5 r) (Row.col j l) := by
  unfold mB Row.mNew
  pointwise [gradB_apply x0 x1 x2 x3 x4 x5]
  rfl

/-- The kernel's new second moment is the step's. -/
theorem vB_apply (r : Fin 32) (l : Fin 128) :
    vB x0 x1 x5 j (ix2 r l) = Row.vNew (args x0 x1 x2 x3 x4 x5 r) (Row.col j l) := by
  unfold vB Row.vNew
  pointwise [gradB_apply x0 x1 x2 x3 x4 x5]
  rfl

/-- The kernel's update is the step's. -/
theorem updB_apply (r : Fin 32) (l : Fin 128) :
    updB x0 x1 x2 x3 x4 x5 j (ix2 r l) = Row.upd (args x0 x1 x2 x3 x4 x5 r) (Row.col j l) := by
  unfold updB Row.upd
  pointwise [mB_apply x0 x1 x2 x3 x4 x5, vB_apply x0 x1 x2 x3 x4 x5, masterB_apply x0 x1 x2 x3 x4 x5]

/-- The kernel's new master weight is the step's. -/
theorem newB_apply (r : Fin 32) (l : Fin 128) :
    newB x0 x1 x2 x3 x4 x5 j (ix2 r l) = Row.masterNew (args x0 x1 x2 x3 x4 x5 r) (Row.col j l) := by
  unfold newB Row.masterNew
  pointwise [updB_apply, masterB_apply x0 x1 x2 x3 x4 x5]

/-- Its high half is the new master weight itself: a change of format changes no value here. -/
theorem hiB_apply (r : Fin 32) (l : Fin 128) :
    hiB x0 x1 x2 x3 x4 x5 j (ix2 r l) = Row.masterNew (args x0 x1 x2 x3 x4 x5 r) (Row.col j l) := by
  unfold hiB
  pointwise [newB_apply]

/-- Its low half is the step's. -/
theorem loB_apply (r : Fin 32) (l : Fin 128) :
    loB x0 x1 x2 x3 x4 x5 j (ix2 r l) = Row.lowNew (args x0 x1 x2 x3 x4 x5 r) (Row.col j l) := by
  unfold loB Row.lowNew
  pointwise [newB_apply, hiB_apply]

/-- The kernel's greatest magnitude of a block, over 448, is the step's. -/
theorem amaxB_apply (r : Fin 32) :
    amaxB x0 x1 x2 x3 x4 x5 j (ix2 r 0) = Row.amax (args x0 x1 x2 x3 x4 x5 r) j := by
  unfold amaxB Row.amax
  pointwise [newB_apply]
  simp only [Ideal.absf_def]

end Cert.KernelRow

end
-- ==== Proof.KernelBits.lean ====
/- The kernel's exponent bits, scales and codes of one column block, read at an index. -/
module

public import proofs.«01_k».proof.Proof.KernelRow

@[expose] public section

set_option maxRecDepth 16384

noncomputable section

namespace Cert.KernelRow

open Cert.KernelIdeal Cert.KernelIdeal.Gen Cert.KernelBlock Idealize.ShloMosaic Idealize.SL.Sem

/-- The `k`-th candidate word, on any row. -/
theorem wordB_apply (r : Fin 32) (k : Fin 256) : wordB (ix2 r k) = Exponent.word k.val := by
  unfold wordB Exponent.word
  pointwise

/-- The greatest word of a row. -/
theorem maxsi_at (v : IVec S32x256 32) (r : Fin 32) :
    shapeCast S32x1 (multiReductionI .maxsi [1] S32 v 2147483648#32 reduces_S32x256_S32 rfl) shapeCasts_S32_S32x1 (ix2 r 0)
    = (Finset.univ : Finset (Fin 256)).fold IntOp.maxsi 2147483648#32 fun k => v (ix2 r k) := by
  pointwise

/-- A candidate, on any row. -/
theorem cand_at (w : IVec S32x256 32) (y : FVec Ideal S32x1 .f32) (r : Fin 32) (k : Fin 256) :
    select (cmpf .ole (bitcastToFloat .f32 w : FVec Ideal S32x256 .f32) (broadcastTo S32x256 y broadcasts_S32x1_S32x256))
      w (broadcast S32x256 0#32) (ix2 r k)
    = if Ideal.ofBits .f32 (w (ix2 r k)) ≤ y (ix2 r 0) then w (ix2 r k) else 0#32 := by
  pointwise

/-- The exponent bits of a row are those of its entry. -/
theorem bitsB_apply (y : FVec Ideal S32x1 .f32) (r : Fin 32) :
    bitsB y (ix2 r 0) = Exponent.bits (y (ix2 r 0)) := by
  unfold bitsB Exponent.bits
  rw [maxsi_at]
  refine Finset.fold_congr fun k _ => ?_
  rw [cand_at, wordB_apply]
  rfl

/-- Likewise where zero is replaced by one half's. -/
theorem bitsB'_apply (y : FVec Ideal S32x1 .f32) (r : Fin 32) :
    bitsB' y (ix2 r 0) = Exponent.bits' (y (ix2 r 0)) := by
  unfold bitsB' Exponent.bits'
  rw [← bitsB_apply]
  pointwise
  generalize bitsB y (ix2 r 0) = b
  by_cases h : b = 0#32
  · simp [Scalar.select, IntOp.cmpi, h]
  · have h' : (b == 0#32) = false := by simpa using h
    simp only [Scalar.select, IntOp.cmpi, h', h, if_false]
    rfl

variable (x0 : Vec Ideal S6x32x7168 .fp8e5m2) (x1 : Vec Ideal S6x32x56 .f32) (x2 : Vec Ideal S32x7168 .bf16) (x3 : Vec Ideal S32x7168 .bf16)
  (x4 : Vec Ideal S32x7168 .f32) (x5 : Vec Ideal S32x7168 .f32) (j : Fin 56)

/-- The float whose word is exponent bits plus one step of the exponent. -/
theorem scale_at (b : IVec S32x1 32) (r : Fin 32) :
    (bitcastToFloat .f32 (addi b (broadcast S32x1 8388608#32)) : FVec Ideal S32x1 .f32) (ix2 r 0)
    = Ideal.ofBits .f32 (b (ix2 r 0) + 8388608#32) := by
  pointwise
  rfl

/-- The clipped product of an entry and the float whose word is the exponent bits reflected. -/
theorem code_at (x : FVec Ideal S32x128 .f32) (b : IVec S32x1 32) (r : Fin 32) (l : Fin 128) :
    (truncf .fp8e4m3 (minimumf (broadcast S32x128 (Scalar.ofBits .f32 0x43E00000#32)) (maximumf (broadcast S32x128 (Scalar.ofBits .f32 0xC3E00000#32))
      (mulf x (broadcastTo S32x128 (bitcastToFloat .f32 (subi (broadcast S32x1 2122317824#32) b) : FVec Ideal S32x1 .f32)
        broadcasts_S32x1_S32x128)))) bitsLt_fp8e4m3_f32 : FVec Ideal S32x128 .fp8e4m3) (ix2 r l)
    = min (Ideal.ofBits .f32 0x43E00000#32) (max (Ideal.ofBits .f32 0xC3E00000#32)
        (x (ix2 r l) * Ideal.ofBits .f32 (2122317824#32 - b (ix2 r 0)))) := by
  pointwise
  rfl

/-- The kernel's scale of a block is the step's. -/
theorem scaleB_apply (r : Fin 32) :
    scaleB x0 x1 x2 x3 x4 x5 j (ix2 r 0) = Row.scale (args x0 x1 x2 x3 x4 x5 r) j := by
  unfold scaleB Row.scale
  rw [← Exponent.scale_eq, scale_at, bitsB'_apply, amaxB_apply]

/-- The kernel's code of a column is the step's. -/
theorem codeB_apply (r : Fin 32) (l : Fin 128) :
    codeB x0 x1 x2 x3 x4 x5 j (ix2 r l) = Row.code (args x0 x1 x2 x3 x4 x5 r) (Row.col j l) := by
  unfold codeB Row.code
  rw [← Exponent.inv_eq, code_at, bitsB'_apply, amaxB_apply, newB_apply, Row.blk_col]

end Cert.KernelRow

end
-- ==== Proof.RefRow.lean ====
/- The reference, read at an index over the extended reals: row `r` of what it computes is the step (Row.lean) of row `r` of its
   arguments. -/
module

public import proofs.«01_k».proof.Proof.Gen.ReferenceIdeal.Value
public import proofs.«01_k».proof.Proof.Row
public import Idealize.ShloMosaic.Lib.Pointwise
public import Idealize.ShloMosaic.Lib.Pipeline.ValueKit.Tiles

@[expose] public section

set_option maxRecDepth 16384

noncomputable section

namespace Cert.RefRow

open Cert.ReferenceIdeal Cert.ReferenceIdeal.Gen Idealize.ShloMosaic Idealize.SL.Sem

variable (x0 : Vec Ideal S6x1280x7168 .fp8e5m2) (x1 : Vec Ideal S6x1280x56 .f32) (x2 : Vec Ideal S1280x7168 .bf16) (x3 : Vec Ideal S1280x7168 .bf16)
  (x4 : Vec Ideal S1280x7168 .f32) (x5 : Vec Ideal S1280x7168 .f32)

/-- Row `r` of the arguments. -/
def args (r : Fin 1280) : Row.Args where
  q p c := x0 (ix3 p r c)
  s p b := x1 (ix3 p r b)
  hi c := x2 (ix2 r c)
  lo c := x3 (ix2 r c)
  m c := x4 (ix2 r c)
  v c := x5 (ix2 r c)

/-- A load of a whole array reads the array. -/
theorem ld_whole {e : EltTy} (x : Vec Ideal S1280x7168 e) : View.ld x r0_2 = x :=
  View.ld_unit_zero (by funext a; fin_cases a <;> rfl) _ x

/-- Likewise the codes. -/
theorem ld_codes {e : EltTy} (x : Vec Ideal S6x1280x7168 e) : View.ld x r0_0 = x :=
  View.ld_unit_zero (by funext a; fin_cases a <;> rfl) _ x

/-- Likewise the block scales. -/
theorem ld_scales {e : EltTy} (x : Vec Ideal S6x1280x56 e) : View.ld x r0_1 = x :=
  View.ld_unit_zero (by funext a; fin_cases a <;> rfl) _ x

/-- Dividing by six is multiplying by the real `1 / 6`. -/
theorem div_six (x : EReal) : Ideal.div x (Ideal.ofBits .f32 0x40C00000#32) = x * ((1 / 6 : ℝ) : EReal) := by
  rw [Consts.ofBits_six]
  unfold Ideal.div
  rw [if_neg (by norm_num), ← EReal.coe_inv, one_div]

/-- The reference's mean gradient is the step's. -/
theorem grad_apply (r : Fin 1280) (c : Fin 7168) :
    k0_pay2 x0 x1 (ix2 r c) = Row.grad (args x0 x1 x2 x3 x4 x5 r) c := by
  unfold k0_pay2 Row.grad
  pointwise
  rw [div_six, Fin.sum_univ_six]
  rfl

/-- The reference's master weight is the step's. -/
theorem master_apply (r : Fin 1280) (c : Fin 7168) :
    k0_pay14 x0 x1 x2 x3 x4 x5 (ix2 r c) = Row.master (args x0 x1 x2 x3 x4 x5 r) c := by
  unfold k0_pay14 k0_pay3 Row.master
  rw [ld_whole, ld_whole]
  pointwise
  rfl

/-- The reference's new first moment is the step's. -/
theorem mNew_apply (r : Fin 1280) (c : Fin 7168) :
    k0_pay4 x0 x1 x4 (ix2 r c) = Row.mNew (args x0 x1 x2 x3 x4 x5 r) c := by
  unfold k0_pay4 Row.mNew
  pointwise
  rw [grad_apply x0 x1 x2 x3 x4 x5]
  rfl

/-- The reference's new second moment is the step's. -/
theorem vNew_apply (r : Fin 1280) (c : Fin 7168) :
    k0_pay5 x0 x1 x5 (ix2 r c) = Row.vNew (args x0 x1 x2 x3 x4 x5 r) c := by
  unfold k0_pay5 Row.vNew
  pointwise
  rw [grad_apply x0 x1 x2 x3 x4 x5]
  rfl

/-- The reference's corrected first moment over the root of the corrected second is the step's. -/
theorem quot_apply (r : Fin 1280) (c : Fin 7168) :
    k0_pay15 x0 x1 x2 x3 x4 x5 (ix2 r c)
    = Ideal.div (Ideal.div (Row.mNew (args x0 x1 x2 x3 x4 x5 r) c) (Ideal.ofBits .f32 0x3F60E05A#32))
        (Ideal.sqrt (Ideal.div (Row.vNew (args x0 x1 x2 x3 x4 x5 r) c) (Ideal.ofBits .f32 0x3F243A44#32)) + Ideal.ofBits .f32 0x322BCC77#32) := by
  unfold k0_pay15
  rw [ld_whole, ld_whole, ld_codes, ld_scales]
  unfold k0_pay6
  pointwise
  rw [mNew_apply x0 x1 x2 x3 x4 x5, vNew_apply x0 x1 x2 x3 x4 x5]

/-- The reference's update is the step's. -/
theorem upd_apply (r : Fin 1280) (c : Fin 7168) :
    k0_pay7 (k0_pay14 x0 x1 x2 x3 x4 x5) (k0_pay15 x0 x1 x2 x3 x4 x5) (ix2 r c) = Row.upd (args x0 x1 x2 x3 x4 x5 r) c := by
  unfold k0_pay7 Row.upd
  pointwise
  rw [quot_apply, master_apply]

/-- The reference's new master weight is the step's. -/
theorem masterNew_apply (r : Fin 1280) (c : Fin 7168) :
    k0_pay8 (k0_pay14 x0 x1 x2 x3 x4 x5) (k0_pay15 x0 x1 x2 x3 x4 x5) (ix2 r c) = Row.masterNew (args x0 x1 x2 x3 x4 x5 r) c := by
  unfold k0_pay8 Row.masterNew
  pointwise
  rw [upd_apply, master_apply]

/-- Its high half is the new master weight itself: a change of format changes no value here. -/
theorem hi_apply (r : Fin 1280) (c : Fin 7168) :
    k0_pay9 (k0_pay14 x0 x1 x2 x3 x4 x5) (k0_pay15 x0 x1 x2 x3 x4 x5) (ix2 r c) = Row.masterNew (args x0 x1 x2 x3 x4 x5 r) c := by
  unfold k0_pay9
  pointwise
  rw [masterNew_apply]

/-- Its low half is the step's. -/
theorem lo_apply (r : Fin 1280) (c : Fin 7168) :
    k0_pay10 (k0_pay14 x0 x1 x2 x3 x4 x5) (k0_pay15 x0 x1 x2 x3 x4 x5) (ix2 r c) = Row.lowNew (args x0 x1 x2 x3 x4 x5 r) c := by
  unfold k0_pay10 Row.lowNew
  pointwise
  rw [masterNew_apply, hi_apply]

/-- The master weights by blocks: column `l` of block `j`. -/
theorem blocks_apply (r : Fin 1280) (j : Fin 56) (l : Fin 128) :
    k0_pay11 (k0_pay14 x0 x1 x2 x3 x4 x5) (k0_pay15 x0 x1 x2 x3 x4 x5) (ix3 r j l) = Row.masterNew (args x0 x1 x2 x3 x4 x5 r) (Row.col j l) := by
  rw [← masterNew_apply]
  unfold k0_pay11
  generalize k0_pay8 (k0_pay14 x0 x1 x2 x3 x4 x5) (k0_pay15 x0 x1 x2 x3 x4 x5) = y
  pointwise
  exact congrArg y (congrArg (ix2 r) (Fin.ext (by show j.val * 128 + l.val = 128 * j.val + l.val; omega)))

/-- The named constant `ln2` is the real `log 2`. -/
theorem ln2 : (Named.named κ "ln2" 0x3F317218#32 : Ideal .f32) = ((Real.log 2 : ℝ) : EReal) :=
  IdealRules.named_const.ideal_named_scalar _ _ _ _ rfl

/-- The greatest entry of a block. -/
theorem max_at (z : FVec Ideal S1280x56x128 .f32) (r : Fin 1280) (j : Fin 56) :
    (multiReduction .maximumf [2] S1280x56 z 0xFF800000#32 reduces_S1280x56x128_S1280x56 (.inl rfl) rfl : FVec Ideal S1280x56 .f32) (ix2 r j)
    = (Finset.univ : Finset (Fin 128)).fold max (Ideal.ofBits .f32 0xFF800000#32) (fun l => z (ix3 r j l)) := by
  pointwise

/-- The reference's exponent of an array of magnitudes, at an entry. -/
theorem expo_at (y : FVec Ideal S1280x56 .f32) (r : Fin 1280) (j : Fin 56) :
    select (cmpf .olt y (broadcast S1280x56 (Scalar.ofBits .f32 0x00800000#32))) (broadcast S1280x56 (Scalar.ofBits .f32 0x00000000#32))
      (minimumf (addf (floor (divf (log y) (broadcast S1280x56 (Named.named κ "ln2" 0x3F317218#32)))) (broadcast S1280x56 (Scalar.ofBits .f32 0x3F800000#32)))
        (broadcast S1280x56 (Scalar.ofBits .f32 0x42FC0000#32))) (ix2 r j)
    = Exponent.expo (y (ix2 r j)) := by
  unfold Exponent.expo
  pointwise
  rw [ln2]

/-- An array times a number, at an entry. -/
theorem mul_at (y : FVec Ideal S1280x56 .f32) (w : BitVec 32) (r : Fin 1280) (j : Fin 56) :
    mulf y (broadcast S1280x56 (Scalar.ofBits .f32 w)) (ix2 r j) = y (ix2 r j) * Ideal.ofBits .f32 w := rfl

/-- A magnitude. -/
theorem absf_at (z : FVec Ideal S1280x56x128 .f32) (r : Fin 1280) (j : Fin 56) (l : Fin 128) :
    absf z (ix3 r j l) = max (z (ix3 r j l)) (-z (ix3 r j l)) := rfl

/-- The exponents of two arrays `y`, `w` whose blocks are `z`. -/
theorem expo_of (z : FVec Ideal S1280x56x128 .f32) (y w : FVec Ideal S1280x7168 .f32) (h : k0_pay11 y w = z) (r : Fin 1280) (j : Fin 56) :
    k0_pay12 y w (ix2 r j)
    = Exponent.expo ((Finset.univ : Finset (Fin 128)).fold max (Ideal.ofBits .f32 0xFF800000#32) (fun l => max (z (ix3 r j l)) (-z (ix3 r j l)))
      * Ideal.ofBits .f32 0x3B124925#32) := by
  unfold k0_pay12
  rw [h]
  dsimp only
  rw [expo_at, mul_at, max_at]
  simp only [absf_at]

/-- The reference's exponent of a block is the step's. -/
theorem expo_apply (r : Fin 1280) (j : Fin 56) :
    k0_pay12 (k0_pay14 x0 x1 x2 x3 x4 x5) (k0_pay15 x0 x1 x2 x3 x4 x5) (ix2 r j) = Exponent.expo (Row.amax (args x0 x1 x2 x3 x4 x5 r) j) := by
  rw [expo_of _ _ _ rfl]
  unfold Row.amax
  simp only [blocks_apply]

/-- Two to the power of any array, at an entry. -/
theorem exp2_at (e : FVec Ideal S1280x56 .f32) (r : Fin 1280) (j : Fin 56) : exp2 e (ix2 r j) = Ideal.exp2 (e (ix2 r j)) := rfl

/-- The reference's scale of a block is the step's. -/
theorem scale_apply (r : Fin 1280) (j : Fin 56) :
    k0_pay13 (k0_pay14 x0 x1 x2 x3 x4 x5) (k0_pay15 x0 x1 x2 x3 x4 x5) (ix2 r j) = Row.scale (args x0 x1 x2 x3 x4 x5 r) j := by
  unfold k0_pay13 Row.scale
  rw [exp2_at, expo_apply]

/-- Where a column lies among the blocks. -/
theorem split_col (y : FVec Ideal S1280x56x128 .f32) (e : FVec Ideal S1280x56 .f32) (r : Fin 1280) (j : Fin 56) (l : Fin 128)
    (h : (Row.col j l).val / 128 < 56) (h' : (Row.col j l).val % 128 < 128) :
    y (ix3 r ⟨(Row.col j l).val / 128, h⟩ ⟨(Row.col j l).val % 128, h'⟩) * Ideal.exp2 (Ideal.ofBits .f32 0x00000000#32 - e (ix2 r ⟨(Row.col j l).val / 128, h⟩))
    = y (ix3 r j l) * Ideal.exp2 (Ideal.ofBits .f32 0x00000000#32 - e (ix2 r j)) := by
  have hj : (⟨(Row.col j l).val / 128, h⟩ : Fin 56) = j := Fin.ext (by show (128 * j.val + l.val) / 128 = j.val; omega)
  have hl : (⟨(Row.col j l).val % 128, h'⟩ : Fin 128) = l := Fin.ext (by show (128 * j.val + l.val) % 128 = l.val; omega)
  rw [hj, hl]

/-- The codes of any blocks with any exponents, at a column. -/
theorem code_at (y : FVec Ideal S1280x56x128 .f32) (e : FVec Ideal S1280x56 .f32) (r : Fin 1280) (j : Fin 56) (l : Fin 128) :
    k0_pay1 y e (ix2 r (Row.col j l))
    = min (Ideal.ofBits .f32 0x43E00000#32) (max (Ideal.ofBits .f32 0xC3E00000#32)
      (y (ix3 r j l) * Ideal.exp2 (Ideal.ofBits .f32 0x00000000#32 - e (ix2 r j)))) := by
  rw [← split_col y e r j l (by omega) (Nat.mod_lt _ (by norm_num))]
  unfold k0_pay1
  pointwise
  rfl

/-- The reference's code of a column is the step's. -/
theorem code_apply (r : Fin 1280) (c : Fin 7168) :
    k0_pay1 (k0_pay11 (k0_pay14 x0 x1 x2 x3 x4 x5) (k0_pay15 x0 x1 x2 x3 x4 x5)) (k0_pay12 (k0_pay14 x0 x1 x2 x3 x4 x5) (k0_pay15 x0 x1 x2 x3 x4 x5)) (ix2 r c)
    = Row.code (args x0 x1 x2 x3 x4 x5 r) c := by
  obtain ⟨j, l, rfl⟩ := Row.exists_col c
  rw [code_at, blocks_apply, expo_apply]
  unfold Row.code
  rw [Row.blk_col]

end Cert.RefRow

end
-- ==== Proof.KernelValue.lean ====
/- What the kernel leaves in its seven result arrays, over the extended reals: row `r` is the step (Row.lean) of row `r` of the
   arguments. -/
module

public import proofs.«01_k».proof.Proof.Gen.KernelIdeal.Value
public import proofs.«01_k».proof.Proof.KernelBits
public import proofs.«01_k».proof.Proof.RefRow
public import Idealize.ShloMosaic.Lib.Pipeline.ValueKit

@[expose] public section

set_option maxRecDepth 16384

noncomputable section

namespace Cert.KernelValue

open Cert.KernelIdeal Cert.KernelIdeal.Gen Cert.KernelBlock Cert.KernelRow Idealize.ShloMosaic Idealize.ShloMosaic.TcCoe Idealize.SL.Sem

/-- A window written block by block: if block `j` holds `f` at the block's columns, the window holds `f`. -/
theorem canon_cols {e : EltTy} (P : Fin 56 → Vec Ideal S32x128 e) (f : Fin 32 → Fin 7168 → Elt Ideal e)
    (h : ∀ j r l, P j (ix2 r l) = f r (Row.col j l)) (r : Fin 32) (c : Fin 7168) :
    View.canon (List.ofFn fun k : Fin 56 => (⟨rC (Fin.rev k), P (Fin.rev k)⟩ : View.Piece (Elt Ideal) S32x7168 e)) (ix2 r c) = f r c := by
  obtain ⟨j, l, rfl⟩ := Row.exists_col c
  refine View.canon_ofFn_unit_eq_of_forall (S := S32x7168) (fun k : Fin 56 => ![0, 128 * (Fin.rev k).val]) S32x128.size (fun k => inb2 (Fin.rev k)) (fun k => P (Fin.rev k)) _ _ ?_ ?_
  · refine ⟨Fin.rev j, fun a => ?_⟩
    rw [Fin.rev_rev]
    fin_cases a
    · exact ⟨Nat.zero_le _, by show r.val < 0 + 32; omega⟩
    · exact ⟨by show 128 * j.val ≤ 128 * j.val + l.val; omega, by show 128 * j.val + l.val < 128 * j.val + 128; omega⟩
  · intro k x hx
    have h0 : r.val = 0 + (x 0).val := hx 0
    have h1 : 128 * j.val + l.val = 128 * (Fin.rev k).val + (x 1).val := hx 1
    have hb : (x 1).val < 128 := (x 1).isLt
    generalize Fin.rev k = q at h1 ⊢
    obtain rfl : q = j := Fin.ext (by omega)
    have e : x = ix2 r l := by
      funext a; fin_cases a
      · exact Fin.ext (by show (x 0).val = r.val; omega)
      · exact Fin.ext (by show (x 1).val = l.val; omega)
    rw [e]
    exact h q r l

/-- The scales, written one column after another, likewise. -/
theorem canon_scales (P : Fin 56 → Vec Ideal S32x1 .f32) (f : Fin 32 → Fin 56 → Elt Ideal .f32)
    (h : ∀ j r, P j (ix2 r 0) = f r j) (r : Fin 32) (j : Fin 56) :
    View.canon (List.ofFn fun k : Fin 56 => (⟨rK (Fin.rev k), P (Fin.rev k)⟩ : View.Piece (Elt Ideal) S32x56 .f32)) (ix2 r j) = f r j := by
  refine View.canon_ofFn_unit_eq_of_forall (S := S32x56) (fun k : Fin 56 => ![0, (Fin.rev k).val]) S32x1.size (fun k => inb3 (Fin.rev k)) (fun k => P (Fin.rev k)) _ _ ?_ ?_
  · refine ⟨Fin.rev j, fun a => ?_⟩
    rw [Fin.rev_rev]
    fin_cases a
    · exact ⟨Nat.zero_le _, by show r.val < 0 + 32; omega⟩
    · exact ⟨by show j.val ≤ j.val; omega, by show j.val < j.val + 1; omega⟩
  · intro k x hx
    have h0 : r.val = 0 + (x 0).val := hx 0
    have h1 : j.val = (Fin.rev k).val + (x 1).val := hx 1
    have hb : (x 1).val < 1 := (x 1).isLt
    generalize Fin.rev k = q at h1 ⊢
    obtain rfl : q = j := Fin.ext (by omega)
    have e : x = ix2 r 0 := by
      funext a; fin_cases a
      · exact Fin.ext (by show (x 0).val = r.val; omega)
      · exact Fin.ext (by show (x 1).val = 0; omega)
    rw [e]
    exact h q r

section Window

variable (x0 : Vec Ideal S6x32x7168 .fp8e5m2) (x1 : Vec Ideal S6x32x56 .f32) (x2 : Vec Ideal S32x7168 .bf16) (x3 : Vec Ideal S32x7168 .bf16)
  (x4 : Vec Ideal S32x7168 .f32) (x5 : Vec Ideal S32x7168 .f32)

/-- Window 6 after the body: row `r` holds the step's high half of row `r` of the blocks. -/
theorem out6_apply (r : Fin 32) (c : Fin 7168) : out0_6 x0 x1 x2 x3 x4 x5 (ix2 r c) = Row.masterNew (args x0 x1 x2 x3 x4 x5 r) c := by
  rw [out6_eq]
  exact canon_cols (e := .bf16) (hiB x0 x1 x2 x3 x4 x5) (fun r c => Row.masterNew (args x0 x1 x2 x3 x4 x5 r) c) (fun j r l => hiB_apply x0 x1 x2 x3 x4 x5 j r l) r c

/-- Window 7 after the body: row `r` holds the step's low half of row `r` of the blocks. -/
theorem out7_apply (r : Fin 32) (c : Fin 7168) : out0_7 x0 x1 x2 x3 x4 x5 (ix2 r c) = Row.lowNew (args x0 x1 x2 x3 x4 x5 r) c := by
  rw [out7_eq]
  exact canon_cols (e := .bf16) (loB x0 x1 x2 x3 x4 x5) (fun r c => Row.lowNew (args x0 x1 x2 x3 x4 x5 r) c) (fun j r l => loB_apply x0 x1 x2 x3 x4 x5 j r l) r c

/-- Window 8 after the body: row `r` holds the step's new first moment of row `r` of the blocks. -/
theorem out8_apply (r : Fin 32) (c : Fin 7168) : out0_8 x0 x1 x2 x3 x4 x5 (ix2 r c) = Row.mNew (args x0 x1 x2 x3 x4 x5 r) c := by
  rw [out8_eq]
  exact canon_cols (e := .f32) (mB x0 x1 x4) (fun r c => Row.mNew (args x0 x1 x2 x3 x4 x5 r) c) (fun j r l => mB_apply x0 x1 x2 x3 x4 x5 j r l) r c

/-- Window 9 after the body: row `r` holds the step's new second moment of row `r` of the blocks. -/
theorem out9_apply (r : Fin 32) (c : Fin 7168) : out0_9 x0 x1 x2 x3 x4 x5 (ix2 r c) = Row.vNew (args x0 x1 x2 x3 x4 x5 r) c := by
  rw [out9_eq]
  exact canon_cols (e := .f32) (vB x0 x1 x5) (fun r c => Row.vNew (args x0 x1 x2 x3 x4 x5 r) c) (fun j r l => vB_apply x0 x1 x2 x3 x4 x5 j r l) r c

/-- Window 10 after the body: row `r` holds the step's update of row `r` of the blocks. -/
theorem out10_apply (r : Fin 32) (c : Fin 7168) : out0_10 x0 x1 x2 x3 x4 x5 (ix2 r c) = Row.upd (args x0 x1 x2 x3 x4 x5 r) c := by
  rw [out10_eq]
  exact canon_cols (e := .f32) (updB x0 x1 x2 x3 x4 x5) (fun r c => Row.upd (args x0 x1 x2 x3 x4 x5 r) c) (fun j r l => updB_apply x0 x1 x2 x3 x4 x5 j r l) r c

/-- Window 11 after the body: row `r` holds the step's codes of row `r` of the blocks. -/
theorem out11_apply (r : Fin 32) (c : Fin 7168) : out0_11 x0 x1 x2 x3 x4 x5 (ix2 r c) = Row.code (args x0 x1 x2 x3 x4 x5 r) c := by
  rw [out11_eq]
  exact canon_cols (e := .fp8e4m3) (codeB x0 x1 x2 x3 x4 x5) (fun r c => Row.code (args x0 x1 x2 x3 x4 x5 r) c) (fun j r l => codeB_apply x0 x1 x2 x3 x4 x5 j r l) r c

/-- Window 12 after the body: row `r` holds the step's scales of row `r` of the blocks. -/
theorem out12_apply (r : Fin 32) (j : Fin 56) : out0_12 x0 x1 x2 x3 x4 x5 (ix2 r j) = Row.scale (args x0 x1 x2 x3 x4 x5 r) j := by
  rw [out12_eq]
  exact canon_scales (scaleB x0 x1 x2 x3 x4 x5) (fun r j => Row.scale (args x0 x1 x2 x3 x4 x5 r) j) (fun j r => scaleB_apply x0 x1 x2 x3 x4 x5 j r) r j

end Window

variable (m : (ℓ : Loc nD τ sig) → Buf (Elt Ideal) ℓ) (c : Dev nD)

/-- Row `r` of the launched arguments. -/
def rowArgs (r : Fin 1280) : Row.Args :=
  RefRow.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

/-- Every window's block index at every grid point: the point, in the row coordinate. -/
theorem idx : ∀ t : Fin cfg0.N,
    (win0_0.index t = ![0, t.val, 0] ∧ win0_1.index t = ![0, t.val, 0] ∧ win0_2.index t = ![t.val, 0] ∧ win0_3.index t = ![t.val, 0]
      ∧ win0_4.index t = ![t.val, 0] ∧ win0_5.index t = ![t.val, 0])
    ∧ (win0_6.index t = ![t.val, 0] ∧ win0_7.index t = ![t.val, 0] ∧ win0_8.index t = ![t.val, 0] ∧ win0_9.index t = ![t.val, 0]
      ∧ win0_10.index t = ![t.val, 0] ∧ win0_11.index t = ![t.val, 0] ∧ win0_12.index t = ![t.val, 0]) :=
  (by decide +kernel : ∀ t : Fin grid0.N, _)

/-- Row `r` of the blocks at grid point `t` is row `32 t + r` of the arrays. -/
theorem row_eq (t : Fin cfg0.N) (r : Fin 32) (R : Fin 1280) (hR : R.val = t.val * 32 + r.val) :
    args (iblk m c 0 t) (iblk m c 1 t) (iblk m c 2 t) (iblk m c 3 t) (iblk m c 4 t) (iblk m c 5 t) r = rowArgs m c R := by
  unfold args rowArgs RefRow.args
  congr 1
  · funext p l
    blk_ext [iblk, V, (idx t).1]
  · funext p l
    blk_ext [iblk, V, (idx t).1]
  · funext l
    blk_ext [iblk, V, (idx t).1]
  · funext l
    blk_ext [iblk, V, (idx t).1]
  · funext l
    blk_ext [iblk, V, (idx t).1]
  · funext l
    blk_ext [iblk, V, (idx t).1]

/-- A function of every row: its value on row `r` of the blocks at grid point `t` is its value on row `32 t + r` of the arrays. -/
theorem at_row {n : Nat} (f : Row.Args → Fin n → EReal) (t : Fin cfg0.N) (r : Fin 32) (k : Fin n) (R : Fin 1280) (K : Fin n)
    (hR : R.val = t.val * 32 + r.val) (hK : K.val = k.val) :
    f (args (iblk m c 0 t) (iblk m c 1 t) (iblk m c 2 t) (iblk m c 3 t) (iblk m c 4 t) (iblk m c 5 t) r) k = f (rowArgs m c R) K := by
  rw [row_eq m c t r R hR, Fin.ext hK]

/-- The result array of the high halves of the new master weights: row `r` is the step of row `r` of the arguments. -/
theorem final6 : (dats m 0 c).arrAt 6 cfg0.N = fun i : S1280x7168.Idx => Row.masterNew (rowArgs m c (i 0)) (i 1) := by
  refine (dats m 0 c).arrAt_eq_of_covers 6 _ (by decide +kernel) fun t hf y => ?_
  blk_simp
  rw [after0_6]
  idx_vars y
  rw [out6_apply]
  refine at_row m c Row.masterNew t _ _ _ _ ?_ ?_ <;> blk_simp [(idx t).2] <;> try omega

/-- The result array of the low halves, likewise. -/
theorem final7 : (dats m 0 c).arrAt 7 cfg0.N = fun i : S1280x7168.Idx => Row.lowNew (rowArgs m c (i 0)) (i 1) := by
  refine (dats m 0 c).arrAt_eq_of_covers 7 _ (by decide +kernel) fun t hf y => ?_
  blk_simp
  rw [after0_7]
  idx_vars y
  rw [out7_apply]
  refine at_row m c Row.lowNew t _ _ _ _ ?_ ?_ <;> blk_simp [(idx t).2] <;> try omega

/-- The result array of the first moments, likewise. -/
theorem final8 : (dats m 0 c).arrAt 8 cfg0.N = fun i : S1280x7168.Idx => Row.mNew (rowArgs m c (i 0)) (i 1) := by
  refine (dats m 0 c).arrAt_eq_of_covers 8 _ (by decide +kernel) fun t hf y => ?_
  blk_simp
  rw [after0_8]
  idx_vars y
  rw [out8_apply]
  refine at_row m c Row.mNew t _ _ _ _ ?_ ?_ <;> blk_simp [(idx t).2] <;> try omega

/-- The result array of the second moments, likewise. -/
theorem final9 : (dats m 0 c).arrAt 9 cfg0.N = fun i : S1280x7168.Idx => Row.vNew (rowArgs m c (i 0)) (i 1) := by
  refine (dats m 0 c).arrAt_eq_of_covers 9 _ (by decide +kernel) fun t hf y => ?_
  blk_simp
  rw [after0_9]
  idx_vars y
  rw [out9_apply]
  refine at_row m c Row.vNew t _ _ _ _ ?_ ?_ <;> blk_simp [(idx t).2] <;> try omega

/-- The result array of the updates, likewise. -/
theorem final10 : (dats m 0 c).arrAt 10 cfg0.N = fun i : S1280x7168.Idx => Row.upd (rowArgs m c (i 0)) (i 1) := by
  refine (dats m 0 c).arrAt_eq_of_covers 10 _ (by decide +kernel) fun t hf y => ?_
  blk_simp
  rw [after0_10]
  idx_vars y
  rw [out10_apply]
  refine at_row m c Row.upd t _ _ _ _ ?_ ?_ <;> blk_simp [(idx t).2] <;> try omega

/-- The result array of the codes, likewise. -/
theorem final11 : (dats m 0 c).arrAt 11 cfg0.N = fun i : S1280x7168.Idx => Row.code (rowArgs m c (i 0)) (i 1) := by
  refine (dats m 0 c).arrAt_eq_of_covers 11 _ (by decide +kernel) fun t hf y => ?_
  blk_simp
  rw [after0_11]
  idx_vars y
  rw [out11_apply]
  refine at_row m c Row.code t _ _ _ _ ?_ ?_ <;> blk_simp [(idx t).2] <;> try omega

/-- The result array of the block scales, likewise. -/
theorem final12 : (dats m 0 c).arrAt 12 cfg0.N = fun i : S1280x56.Idx => Row.scale (rowArgs m c (i 0)) (i 1) := by
  refine (dats m 0 c).arrAt_eq_of_covers 12 _ (by decide +kernel) fun t hf y => ?_
  blk_simp
  rw [after0_12]
  idx_vars y
  rw [out12_apply]
  refine at_row m c Row.scale t _ _ _ _ ?_ ?_ <;> blk_simp [(idx t).2] <;> try omega

end Cert.KernelValue

end
-- ==== Proof.Algebraic.lean ====
/- The two runs side by side: the kernel's seven result arrays are the reference's. -/
module

public import proofs.«01_k».proof.Defs
public import proofs.«01_k».proof.Proof.KernelValue

@[expose] public section

noncomputable section

namespace Cert.Proof

open Idealize.ShloMosaic Idealize.ShloMosaic.TcCoe Idealize.SL.Sem

section Reference

open Cert.ReferenceIdeal Cert.ReferenceIdeal.Gen

variable (x0 : Vec Ideal S6x1280x7168 .fp8e5m2) (x1 : Vec Ideal S6x1280x56 .f32) (x2 : Vec Ideal S1280x7168 .bf16) (x3 : Vec Ideal S1280x7168 .bf16)
  (x4 : Vec Ideal S1280x7168 .f32) (x5 : Vec Ideal S1280x7168 .f32)

/-- The reference's results, array by array, are the step of every row. -/
theorem ref_arrays :
    (Cert.ReferenceIdeal.Value.G6 x0 x1 x2 x3 x4 x5 = fun i => Row.masterNew (RefRow.args x0 x1 x2 x3 x4 x5 (i 0)) (i 1))
    ∧ (Cert.ReferenceIdeal.Value.G7 x0 x1 x2 x3 x4 x5 = fun i => Row.lowNew (RefRow.args x0 x1 x2 x3 x4 x5 (i 0)) (i 1))
    ∧ (Cert.ReferenceIdeal.Value.G8 x0 x1 x2 x3 x4 x5 = fun i => Row.mNew (RefRow.args x0 x1 x2 x3 x4 x5 (i 0)) (i 1))
    ∧ (Cert.ReferenceIdeal.Value.G9 x0 x1 x2 x3 x4 x5 = fun i => Row.vNew (RefRow.args x0 x1 x2 x3 x4 x5 (i 0)) (i 1))
    ∧ (Cert.ReferenceIdeal.Value.G10 x0 x1 x2 x3 x4 x5 = fun i => Row.upd (RefRow.args x0 x1 x2 x3 x4 x5 (i 0)) (i 1))
    ∧ (Cert.ReferenceIdeal.Value.G11 x0 x1 x2 x3 x4 x5 = fun i => Row.code (RefRow.args x0 x1 x2 x3 x4 x5 (i 0)) (i 1))
    ∧ (Cert.ReferenceIdeal.Value.G12 x0 x1 x2 x3 x4 x5 = fun i => Row.scale (RefRow.args x0 x1 x2 x3 x4 x5 (i 0)) (i 1)) := by
  refine ⟨?_, ?_, ?_, ?_, ?_, ?_, ?_⟩ <;> funext i <;> idx_vars i
  · exact RefRow.hi_apply x0 x1 x2 x3 x4 x5 _ _
  · exact RefRow.lo_apply x0 x1 x2 x3 x4 x5 _ _
  · exact RefRow.mNew_apply x0 x1 x2 x3 x4 x5 _ _
  · exact RefRow.vNew_apply x0 x1 x2 x3 x4 x5 _ _
  · exact RefRow.upd_apply x0 x1 x2 x3 x4 x5 _ _
  · exact RefRow.code_apply x0 x1 x2 x3 x4 x5 _ _
  · exact RefRow.scale_apply x0 x1 x2 x3 x4 x5 _ _

/-- Equal arrays have equal rows. -/
theorem rows_congr {y0 : Vec Ideal S6x1280x7168 .fp8e5m2} {y1 : Vec Ideal S6x1280x56 .f32} {y2 y3 : Vec Ideal S1280x7168 .bf16}
    {y4 y5 : Vec Ideal S1280x7168 .f32} (h : x0 = y0 ∧ x1 = y1 ∧ x2 = y2 ∧ x3 = y3 ∧ x4 = y4 ∧ x5 = y5) :
    RefRow.args x0 x1 x2 x3 x4 x5 = RefRow.args y0 y1 y2 y3 y4 y5 := by
  obtain ⟨rfl, rfl, rfl, rfl, rfl, rfl⟩ := h
  rfl

end Reference

/-- Launched on equal arguments, the kernel and the reference end with equal results, all seven of them, and keep their arguments. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => fun i : Cert.KernelIdeal.S1280x7168.Idx => Row.masterNew (KernelValue.rowArgs m c (i 0)) (i 1),
    fun c => fun i : Cert.KernelIdeal.S1280x7168.Idx => Row.lowNew (KernelValue.rowArgs m c (i 0)) (i 1),
    fun c => fun i : Cert.KernelIdeal.S1280x7168.Idx => Row.mNew (KernelValue.rowArgs m c (i 0)) (i 1),
    fun c => fun i : Cert.KernelIdeal.S1280x7168.Idx => Row.vNew (KernelValue.rowArgs m c (i 0)) (i 1),
    fun c => fun i : Cert.KernelIdeal.S1280x7168.Idx => Row.upd (KernelValue.rowArgs m c (i 0)) (i 1),
    fun c => fun i : Cert.KernelIdeal.S1280x7168.Idx => Row.code (KernelValue.rowArgs m c (i 0)) (i 1),
    fun c => fun i : Cert.KernelIdeal.S1280x56.Idx => Row.scale (KernelValue.rowArgs m c (i 0)) (i 1), ?_, ?_⟩
  · refine (θ_run _ _ _).mono (fun r h c => ?_) (Cert.KernelIdeal.Value.run_blocks m g)
    obtain ⟨h0, h1, h2, h3, h4, h5, h6, hargs⟩ := h c
    exact ⟨h0.trans (KernelValue.final6 m c), h1.trans (KernelValue.final7 m c), h2.trans (KernelValue.final8 m c),
      h3.trans (KernelValue.final9 m c), h4.trans (KernelValue.final10 m c), h5.trans (KernelValue.final11 m c),
      h6.trans (KernelValue.final12 m c), hargs⟩
  · refine (θ_run _ _ _).mono (fun r h c => ?_) (Cert.ReferenceIdeal.Value.run m' g')
    obtain ⟨h0, h1, h2, h3, h4, h5, h6, hargs⟩ := h c
    obtain ⟨e0, e1, e2, e3, e4, e5, e6⟩ := ref_arrays
      (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2))
      (m' ((c : Thread Cert.ReferenceIdeal.nD Cert.ReferenceIdeal.τ).loc Cert.ReferenceIdeal.main_arg3))
      (m' ((c : Thread Cert.ReferenceIdeal.nD Cert.ReferenceIdeal.τ).loc Cert.ReferenceIdeal.main_arg4))
      (m' ((c : Thread Cert.ReferenceIdeal.nD Cert.ReferenceIdeal.τ).loc Cert.ReferenceIdeal.main_arg5))
    have hr := rows_congr _ _ _ _ _ _ (hag c)
    rw [hr] at e0 e1 e2 e3 e4 e5 e6
    exact ⟨h0.trans e0, h1.trans e1, h2.trans e2, h3.trans e3, h4.trans e4, h5.trans e5, h6.trans e6, hargs⟩

end Cert.Proof

end
-- ==== Proof.lean ====
module

public import proofs.«01_k».proof.Defs
public import proofs.«01_k».proof.Proof.Gen.KernelIdeal.Value
public import proofs.«01_k».proof.Proof.Gen.ReferenceIdeal.Value
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import Idealize.ShloMosaic.Adequacy
public import Idealize.ShloMosaic.Init

@[expose] public section

noncomputable section

namespace Cert.Proof

open Idealize.ShloMosaic Idealize.SL.Sem Cert.Kernel

/-- The frames of the four programs, the two named constants, and the equality of the kernel's seven results with the
    reference's. -/
theorem claim : Cert.Claim := ⟨Cert.Kernel.Gen.facts, Cert.KernelIdeal.Gen.facts, Cert.ReferenceIdeal.Gen.facts, Cert.Reference.Gen.facts,
  fun m ρ _ => Cert.Kernel.Gen.frame m ρ,
  fun m ρ _ => Cert.KernelIdeal.Gen.frame m ρ,
  fun m ρ _ => Cert.ReferenceIdeal.Gen.frame m ρ,
  fun m ρ _ => Cert.Reference.Gen.frame m ρ,
  IdealRules.named_const.statement Cert.KernelIdeal.κ "inv_ranks" .f32 0x3E2AAAAB#32 ((1 / 6 : ℝ) : EReal) rfl,
  IdealRules.named_const.statement Cert.ReferenceIdeal.κ "ln2" .f32 0x3F317218#32 ((Real.log 2 : ℝ) : EReal) rfl,
  algebraic⟩

end Cert.Proof

end
